-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x5120 : Shape := ⟨3, ![16, 1, 5120]⟩
abbrev S2560x27648 : Shape := ⟨2, ![2560, 27648]⟩
abbrev S40x27648 : Shape := ⟨2, ![40, 27648]⟩
abbrev S20x27648 : Shape := ⟨2, ![20, 27648]⟩
abbrev S5120 : Shape := ⟨1, ![5120]⟩
abbrev S16x5120 : Shape := ⟨2, ![16, 5120]⟩
abbrev S1x5120 : Shape := ⟨2, ![1, 5120]⟩
abbrev S16x27648 : Shape := ⟨2, ![16, 27648]⟩
abbrev S2560x1024 : Shape := ⟨2, ![2560, 1024]⟩
abbrev S40x1024 : Shape := ⟨2, ![40, 1024]⟩
abbrev S20x1024 : Shape := ⟨2, ![20, 1024]⟩
abbrev S16x1024 : Shape := ⟨2, ![16, 1024]⟩
abbrev S1x512 : Shape := ⟨2, ![1, 512]⟩
abbrev S40x512 : Shape := ⟨2, ![40, 512]⟩
abbrev S512x1024 : Shape := ⟨2, ![512, 1024]⟩
abbrev S256x1024 : Shape := ⟨2, ![256, 1024]⟩
abbrev S256x1x1024 : Shape := ⟨3, ![256, 1, 1024]⟩
abbrev S256x2x1024 : Shape := ⟨3, ![256, 2, 1024]⟩
abbrev S16x512 : Shape := ⟨2, ![16, 512]⟩
abbrev S16x1x27648 : Shape := ⟨3, ![16, 1, 27648]⟩

abbrev nBuf : Space → Nat
  | .hbm => 9
  | .vmem => 11
  | .smem => 0
  | _ => 0

abbrev bufTy : (tb : Table) → Fin (tcTables nBuf tb) → BufTy
  | .hbm, ⟨0, _⟩ => ⟨S16x1x5120, .bf16⟩
  | .hbm, ⟨1, _⟩ => ⟨S2560x27648, .i8⟩
  | .hbm, ⟨2, _⟩ => ⟨S40x27648, .bf16⟩
  | .hbm, ⟨3, _⟩ => ⟨S20x27648, .i8⟩
  | .hbm, ⟨4, _⟩ => ⟨S5120, .i32⟩
  | .hbm, ⟨5, _⟩ => ⟨S16x5120, .bf16⟩
  | .hbm, ⟨6, _⟩ => ⟨S1x5120, .i32⟩
  | .hbm, ⟨7, _⟩ => ⟨S16x27648, .bf16⟩
  | .hbm, ⟨8, _⟩ => ⟨S16x1x27648, .bf16⟩
  | .local _ .vmem, ⟨0, _⟩ => ⟨S16x5120, .bf16⟩
  | .local _ .vmem, ⟨1, _⟩ => ⟨S1x5120, .i32⟩
  | .local _ .vmem, ⟨2, _⟩ => ⟨S2560x1024, .i8⟩
  | .local _ .vmem, ⟨3, _⟩ => ⟨S2560x1024, .i8⟩
  | .local _ .vmem, ⟨4, _⟩ => ⟨S40x1024, .bf16⟩
  | .local _ .vmem, ⟨5, _⟩ => ⟨S40x1024, .bf16⟩
  | .local _ .vmem, ⟨6, _⟩ => ⟨S20x1024, .i8⟩
  | .local _ .vmem, ⟨7, _⟩ => ⟨S20x1024, .i8⟩
  | .local _ .vmem, ⟨8, _⟩ => ⟨S16x1024, .bf16⟩
  | .local _ .vmem, ⟨9, _⟩ => ⟨S16x1024, .bf16⟩
  | .local _ .vmem, ⟨10, _⟩ => ⟨S16x1024, .f32⟩
  | _, _ => ⟨S16x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![27], ![false]⟩

@[reducible] def k0_t1_loop : Scf.Loop 32 :=
  let c0_i32 : BitVec 32 := 0#32
  let c10_i32 : BitVec 32 := 10#32
  let v13 : BitVec 32 := Scalar.addi c0_i32 c10_i32
  let c1_i32 : BitVec 32 := 1#32
  ⟨c0_i32, v13, c1_i32⟩
def k0_mult1 (k0_t1 : Fin k0_t1_loop.trips) : BitVec 32 :=
  let c0_i32_11 : BitVec 32 := 0#32
  let c0_i32 : BitVec 32 := 0#32
  let c1_i32 : BitVec 32 := 1#32
  let arg8 : BitVec 32 := Scf.iv c0_i32 c1_i32 k0_t1
  let c1_i32_10 : BitVec 32 := 1#32
  let v17 : BitVec 32 := Scalar.muli arg8 c1_i32_10
  let v18 : BitVec 32 := Scalar.addi c0_i32_11 v17
  let c512_i32 : BitVec 32 := 512#32
  let v19 : BitVec 32 := Scalar.muli v18 c512_i32
  v19
def k0_off1 (k0_t1 : Fin k0_t1_loop.trips) : Fin 2 → Nat :=
  let c0_12 : Index := 0#32
  let c0_i32_11 : BitVec 32 := 0#32
  let c0_i32 : BitVec 32 := 0#32
  let c1_i32 : BitVec 32 := 1#32
  let arg8 : BitVec 32 := Scf.iv c0_i32 c1_i32 k0_t1
  let c1_i32_10 : BitVec 32 := 1#32
  let v17 : BitVec 32 := Scalar.muli arg8 c1_i32_10
  let v18 : BitVec 32 := Scalar.addi c0_i32_11 v17
  let c512_i32 : BitVec 32 := 512#32
  let v19 : BitVec 32 := Scalar.muli v18 c512_i32
  let v20 : BitVec 32 := v19
  let v21 : Index := Scalar.indexCast v20
  ![0, v21.toNat]
def k0_mult2 (k0_t1 : Fin k0_t1_loop.trips) : BitVec 32 :=
  let c0_i32_11 : BitVec 32 := 0#32
  let c0_i32 : BitVec 32 := 0#32
  let c1_i32 : BitVec 32 := 1#32
  let arg8 : BitVec 32 := Scf.iv c0_i32 c1_i32 k0_t1
  let c1_i32_10 : BitVec 32 := 1#32
  let v17 : BitVec 32 := Scalar.muli arg8 c1_i32_10
  let v18 : BitVec 32 := Scalar.addi c0_i32_11 v17
  let c512_i32 : BitVec 32 := 512#32
  let v19 : BitVec 32 := Scalar.muli v18 c512_i32
  let v20 : BitVec 32 := v19
  let c0_i32_15 : BitVec 32 := 0#32
  let v35 : BitVec 1 := Scalar.cmpi .sgt v20 c0_i32_15
  let v36 : BitVec 32 := Scalar.extui v35
  let c0_i32_16 : BitVec 32 := 0#32
  let v37 : BitVec 1 := Scalar.cmpi .slt v20 c0_i32_16
  let v38 : BitVec 32 := Scalar.extui v37
  let v39 : BitVec 32 := Scalar.subi v36 v38
  let c2_i32 : BitVec 32 := 2#32
  let c0_i32_17 : BitVec 32 := 0#32
  let v40 : BitVec 1 := Scalar.cmpi .sgt c2_i32 c0_i32_17
  let v41 : BitVec 32 := Scalar.extui v40
  let c0_i32_18 : BitVec 32 := 0#32
  let v42 : BitVec 1 := Scalar.cmpi .slt c2_i32 c0_i32_18
  let v43 : BitVec 32 := Scalar.extui v42
  let v44 : BitVec 32 := Scalar.subi v41 v43
  let v45 : BitVec 1 := Scalar.cmpi .ne v39 v44
  let v46 : BitVec 32 := Scalar.remsi v20 c2_i32
  let c0_i32_19 : BitVec 32 := 0#32
  let v47 : BitVec 1 := Scalar.cmpi .ne v46 c0_i32_19
  let v48 : BitVec 1 := Scalar.andi v45 v47
  let v34 : BitVec 32 := Scalar.divsi v20 c2_i32
  let c1_i32_20 : BitVec 32 := 1#32
  let v49 : BitVec 32 := Scalar.subi v34 c1_i32_20
  let v50 : BitVec 32 := Scalar.select v48 v49 v34
  v50
def k0_off2 (k0_t1 : Fin k0_t1_loop.trips) : Fin 2 → Nat :=
  let c0_i32_11 : BitVec 32 := 0#32
  let c0_i32 : BitVec 32 := 0#32
  let c1_i32 : BitVec 32 := 1#32
  let arg8 : BitVec 32 := Scf.iv c0_i32 c1_i32 k0_t1
  let c1_i32_10 : BitVec 32 := 1#32
  let v17 : BitVec 32 := Scalar.muli arg8 c1_i32_10
  let v18 : BitVec 32 := Scalar.addi c0_i32_11 v17
  let c512_i32 : BitVec 32 := 512#32
  let v19 : BitVec 32 := Scalar.muli v18 c512_i32
  let v20 : BitVec 32 := v19
  let c0_i32_15 : BitVec 32 := 0#32
  let v35 : BitVec 1 := Scalar.cmpi .sgt v20 c0_i32_15
  let v36 : BitVec 32 := Scalar.extui v35
  let c0_i32_16 : BitVec 32 := 0#32
  let v37 : BitVec 1 := Scalar.cmpi .slt v20 c0_i32_16
  let v38 : BitVec 32 := Scalar.extui v37
  let v39 : BitVec 32 := Scalar.subi v36 v38
  let c2_i32 : BitVec 32 := 2#32
  let c0_i32_17 : BitVec 32 := 0#32
  let v40 : BitVec 1 := Scalar.cmpi .sgt c2_i32 c0_i32_17
  let v41 : BitVec 32 := Scalar.extui v40
  let c0_i32_18 : BitVec 32 := 0#32
  let v42 : BitVec 1 := Scalar.cmpi .slt c2_i32 c0_i32_18
  let v43 : BitVec 32 := Scalar.extui v42
  let v44 : BitVec 32 := Scalar.subi v41 v43
  let v45 : BitVec 1 := Scalar.cmpi .ne v39 v44
  let v46 : BitVec 32 := Scalar.remsi v20 c2_i32
  let c0_i32_19 : BitVec 32 := 0#32
  let v47 : BitVec 1 := Scalar.cmpi .ne v46 c0_i32_19
  let v48 : BitVec 1 := Scalar.andi v45 v47
  let v34 : BitVec 32 := Scalar.divsi v20 c2_i32
  let c1_i32_20 : BitVec 32 := 1#32
  let v49 : BitVec 32 := Scalar.subi v34 c1_i32_20
  let v50 : BitVec 32 := Scalar.select v48 v49 v34
  let v51 : BitVec 32 := v50
  let v52 : Index := Scalar.indexCast v51
  let c0_21 : Index := 0#32
  ![v52.toNat, 0]
def k0_off3 (k0_t1 : Fin k0_t1_loop.trips) : Fin 2 → Nat :=
  let c0_26 : Index := 0#32
  let c0_i32_11 : BitVec 32 := 0#32
  let c0_i32 : BitVec 32 := 0#32
  let c1_i32 : BitVec 32 := 1#32
  let arg8 : BitVec 32 := Scf.iv c0_i32 c1_i32 k0_t1
  let c1_i32_10 : BitVec 32 := 1#32
  let v17 : BitVec 32 := Scalar.muli arg8 c1_i32_10
  let v18 : BitVec 32 := Scalar.addi c0_i32_11 v17
  let c512_i32 : BitVec 32 := 512#32
  let v19 : BitVec 32 := Scalar.muli v18 c512_i32
  let v20 : BitVec 32 := v19
  let v67 : Index := Scalar.indexCast v20
  ![0, v67.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x5120 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2560x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S20x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x1x5120 : Shape := ⟨3, ![16, 1, 5120]⟩
abbrev S2560x27648 : Shape := ⟨2, ![2560, 27648]⟩
abbrev S40x27648 : Shape := ⟨2, ![40, 27648]⟩
abbrev S20x27648 : Shape := ⟨2, ![20, 27648]⟩
abbrev S5120 : Shape := ⟨1, ![5120]⟩
abbrev S_ : Shape := ⟨0, ![]⟩
abbrev S2560 : Shape := ⟨1, ![2560]⟩
abbrev S5120x1 : Shape := ⟨2, ![5120, 1]⟩
abbrev S40 : Shape := ⟨1, ![40]⟩
abbrev S1x40 : Shape := ⟨2, ![1, 40]⟩
abbrev S5120x40 : Shape := ⟨2, ![5120, 40]⟩
abbrev S5120x27648 : Shape := ⟨2, ![5120, 27648]⟩
abbrev S16x1x2560 : Shape := ⟨3, ![16, 1, 2560]⟩
abbrev S16x1x27648 : Shape := ⟨3, ![16, 1, 27648]⟩

abbrev nBuf : Space → Nat
  | .hbm => 44
  | .vmem => 0
  | .smem => 0
  | _ => 0

abbrev bufTy : (tb : Table) → Fin (tcTables nBuf tb) → BufTy
  | .hbm, ⟨0, _⟩ => ⟨S16x1x5120, .bf16⟩
  | .hbm, ⟨1, _⟩ => ⟨S2560x27648, .i8⟩
  | .hbm, ⟨2, _⟩ => ⟨S40x27648, .bf16⟩
  | .hbm, ⟨3, _⟩ => ⟨S20x27648, .i8⟩
  | .hbm, ⟨4, _⟩ => ⟨S5120, .i32⟩
  | .hbm, ⟨5, _⟩ => ⟨S2560x27648, .i32⟩
  | .hbm, ⟨6, _⟩ => ⟨S20x27648, .i32⟩
  | .hbm, ⟨7, _⟩ => ⟨S_, .i32⟩
  | .hbm, ⟨8, _⟩ => ⟨S20x27648, .i32⟩
  | .hbm, ⟨9, _⟩ => ⟨S20x27648, .i32⟩
  | .hbm, ⟨10, _⟩ => ⟨S_, .i32⟩
  | .hbm, ⟨11, _⟩ => ⟨S20x27648, .i32⟩
  | .hbm, ⟨12, _⟩ => ⟨S20x27648, .i32⟩
  | .hbm, ⟨13, _⟩ => ⟨S40x27648, .i32⟩
  | .hbm, ⟨14, _⟩ => ⟨S40x27648, .bf16⟩
  | .hbm, ⟨15, _⟩ => ⟨S2560, .i32⟩
  | .hbm, ⟨16, _⟩ => ⟨S2560, .i32⟩
  | .hbm, ⟨17, _⟩ => ⟨S5120, .i32⟩
  | .hbm, ⟨18, _⟩ => ⟨S5120x1, .i32⟩
  | .hbm, ⟨19, _⟩ => ⟨S40, .i32⟩
  | .hbm, ⟨20, _⟩ => ⟨S1x40, .i32⟩
  | .hbm, ⟨21, _⟩ => ⟨S5120x40, .i32⟩
  | .hbm, ⟨22, _⟩ => ⟨S5120x40, .i32⟩
  | .hbm, ⟨23, _⟩ => ⟨S5120x40, .i1⟩
  | .hbm, ⟨24, _⟩ => ⟨S5120x40, .bf16⟩
  | .hbm, ⟨25, _⟩ => ⟨S5120x27648, .f32⟩
  | .hbm, ⟨26, _⟩ => ⟨S5120x27648, .bf16⟩
  | .hbm, ⟨27, _⟩ => ⟨S5120x27648, .f32⟩
  | .hbm, ⟨28, _⟩ => ⟨S5120x27648, .bf16⟩
  | .hbm, ⟨29, _⟩ => ⟨S_, .i32⟩
  | .hbm, ⟨30, _⟩ => ⟨S2560x27648, .i32⟩
  | .hbm, ⟨31, _⟩ => ⟨S2560x27648, .i32⟩
  | .hbm, ⟨32, _⟩ => ⟨S_, .i32⟩
  | .hbm, ⟨33, _⟩ => ⟨S2560x27648, .i32⟩
  | .hbm, ⟨34, _⟩ => ⟨S2560x27648, .i32⟩
  | .hbm, ⟨35, _⟩ => ⟨S5120x27648, .i32⟩
  | .hbm, ⟨36, _⟩ => ⟨S5120x27648, .bf16⟩
  | .hbm, ⟨37, _⟩ => ⟨S5120x27648, .bf16⟩
  | .hbm, ⟨38, _⟩ => ⟨S5120x27648, .bf16⟩
  | .hbm, ⟨39, _⟩ => ⟨S16x1x2560, .bf16⟩
  | .hbm, ⟨40, _⟩ => ⟨S16x1x2560, .bf16⟩
  | .hbm, ⟨41, _⟩ => ⟨S16x1x5120, .bf16⟩
  | .hbm, ⟨42, _⟩ => ⟨S16x1x27648, .f32⟩
  | .hbm, ⟨43, _⟩ => ⟨S16x1x27648, .bf16⟩
  | _, _ => ⟨S16x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Proof.Block.lean ====
/-
  WHAT ONE GRID POINT LEAVES IN ITS OUTPUT BLOCK, as the kernel body's own values. The body zeroes a 16x1024 accumulator, runs ten
  trips of a loop — trip `k` adds to the accumulator the product of columns [512 k, 512 k + 512) of `x` with the dequantized rows
  of the weight — and stores the accumulator, rounded to bfloat16. Stated here: one trip is one store of the whole accumulator
  (`trip_eq`), so after `k` trips the accumulator holds `acc k` (`pieces_eq`), and the block is the rounding of `acc 10`
  (`outsAt_eq`).
-/
module

public import proofs.«01_k».proof.Proof.Gen.KernelIdeal.Frame
public import Idealize.ShloMosaic.Lib.VecWindow
public import Idealize.ShloMosaic.Lib.Pipeline.ValueKit

@[expose] public section

set_option maxRecDepth 16384

noncomputable section

namespace Cert.Proof.Block

open Cert.KernelIdeal Cert.KernelIdeal.Gen Idealize.ShloMosaic Idealize.ShloMosaic.TcCoe Idealize.SL.Sem
open Idealize.ShloMosaic.Pipeline (Dat)

variable {F : FTy → Type} [FloatOps F]

/-- What trip `k` stores in the accumulator, from the chunks it loads: `g` the group numbers of its 512 rows, `q` its 256 packed
    rows, `x` its 512 columns of the input, the whole tables `z` (packed zero points) and `s` (scales), and `a`, the accumulator. -/
def step (z : Vec F S20x1024 .i8) (s : Vec F S40x1024 .bf16) (g : Vec F S1x512 .i32) (q : Vec F S256x1024 .i8)
    (x : Vec F S16x512 .bf16) (a : Vec F S16x1024 .f32) : Vec F S16x1024 .f32 :=
  k0_pay3 (k0_pay6 (k0_pay1 z) g) (k0_pay7 s g) (k0_pay9 q) (k0_pay10 q) a x

/-- The rectangle of the whole accumulator. -/
abbrev whole : Rect S16x1024 := Rect.unit ![0, 0] S16x1024.size inb_S16x1024_S16x1024_0_0

/-- ONE TRIP IS ONE STORE of the whole accumulator: `step` of the chunks the trip loads and of the accumulator it finds. -/
theorem trip_eq (𝒱 : Variants) (c : Dev nD) (bd : Option 𝒱.V) (i : grid0.Coords) (arg1 : Memref sig .tc .vmem S16x5120 .bf16) (harg1 : arg1.IsWhole)
    (arg2 : Memref sig .tc .vmem S1x5120 .i32) (harg2 : arg2.IsWhole) (arg3 : Memref sig .tc .vmem S2560x1024 .i8) (harg3 : arg3.IsWhole)
    (arg4 : Memref sig .tc .vmem S40x1024 .bf16) (harg4 : arg4.IsWhole) (arg5 : Memref sig .tc .vmem S20x1024 .i8) (harg5 : arg5.IsWhole)
    (arg6 : Memref sig .tc .vmem S16x1024 .bf16) (harg6 : arg6.IsWhole) (arg7 : Memref sig .tc .vmem S16x1024 .f32) (harg7 : arg7.IsWhole)
    (v0 : Vec F S20x1024 .i8) (v8 : Vec F S40x1024 .bf16) (x : Vec F S16x5120 .bf16) (g : Vec F S1x5120 .i32) (q : Vec F S2560x1024 .i8)
    (k : Fin k0_t1_loop.trips) (f : BufTy.Contents (Elt F) arg7.view.ty) :
    tripL_k0_t1 (F := F) 𝒱 c bd i arg1 harg1 arg2 harg2 arg3 harg3 arg4 harg4 arg5 harg5 arg6 harg6 arg7 harg7 v0 v8
        (harg1.unread x) (harg2.unread g) (harg3.unread q) k f
      = [⟨whole, step v0 v8 (View.ld g (Rect.unit (k0_off1 k) S1x512.size (k0_off1_inb k)))
          (View.ld q (Rect.unit (k0_off2 k) S256x1024.size (k0_off2_inb k)))
          (View.ld x (Rect.unit (k0_off3 k) S16x512.size (k0_off3_inb k)))
          (View.readAt (Elt F) arg7.view whole.toLoadRect f)⟩] := by
  unfold tripL_k0_t1 trip_k0_t1
  dsimp only
  sl_unfold_words
  simp only [View.readAt_eq_ld, harg1.read_unread, harg2.read_unread, harg3.read_unread]
  rfl

/-- The accumulator before trip `k`: zero, then one `step` per trip. -/
def acc (x : Vec F S16x5120 .bf16) (g : Vec F S1x5120 .i32) (q : Vec F S2560x1024 .i8) (s : Vec F S40x1024 .bf16) (z : Vec F S20x1024 .i8) :
    ℕ → Vec F S16x1024 .f32
  | 0 => k0_pay2
  | k + 1 => if h : k < k0_t1_loop.trips then
      step z s (View.ld g (Rect.unit (k0_off1 ⟨k, h⟩) S1x512.size (k0_off1_inb ⟨k, h⟩)))
        (View.ld q (Rect.unit (k0_off2 ⟨k, h⟩) S256x1024.size (k0_off2_inb ⟨k, h⟩)))
        (View.ld x (Rect.unit (k0_off3 ⟨k, h⟩) S16x512.size (k0_off3_inb ⟨k, h⟩)))
        (acc x g q s z k)
    else acc x g q s z k

/-- One more trip, for a trip that runs. -/
theorem acc_succ (x : Vec F S16x5120 .bf16) (g : Vec F S1x5120 .i32) (q : Vec F S2560x1024 .i8) (s : Vec F S40x1024 .bf16)
    (z : Vec F S20x1024 .i8) (k : Fin k0_t1_loop.trips) :
    acc x g q s z (k.val + 1) = step z s (View.ld g (Rect.unit (k0_off1 k) S1x512.size (k0_off1_inb k)))
        (View.ld q (Rect.unit (k0_off2 k) S256x1024.size (k0_off2_inb k)))
        (View.ld x (Rect.unit (k0_off3 k) S16x512.size (k0_off3_inb k))) (acc x g q s z k.val) := by
  rw [acc]; exact dif_pos k.isLt

/-- AFTER `k` TRIPS the newest store in the accumulator is a store of the whole of it, of `acc k`. -/
theorem pieces_eq (𝒱 : Variants) (c : Dev nD) (bd : Option 𝒱.V) (i : grid0.Coords) (arg1 : Memref sig .tc .vmem S16x5120 .bf16) (harg1 : arg1.IsWhole)
    (arg2 : Memref sig .tc .vmem S1x5120 .i32) (harg2 : arg2.IsWhole) (arg3 : Memref sig .tc .vmem S2560x1024 .i8) (harg3 : arg3.IsWhole)
    (arg4 : Memref sig .tc .vmem S40x1024 .bf16) (harg4 : arg4.IsWhole) (arg5 : Memref sig .tc .vmem S20x1024 .i8) (harg5 : arg5.IsWhole)
    (arg6 : Memref sig .tc .vmem S16x1024 .bf16) (harg6 : arg6.IsWhole) (arg7 : Memref sig .tc .vmem S16x1024 .f32) (harg7 : arg7.IsWhole)
    (x : Vec F S16x5120 .bf16) (g : Vec F S1x5120 .i32) (q : Vec F S2560x1024 .i8) (s : Vec F S40x1024 .bf16) (z : Vec F S20x1024 .i8) :
    ∀ k : ℕ, k ≤ k0_t1_loop.trips → ∃ L : List (View.Piece (Elt F) S16x1024 .f32),
      pb_k0_t1 (F := F) 𝒱 c bd i arg1 harg1 arg2 harg2 arg3 harg3 arg4 harg4 arg5 harg5 arg6 harg6 arg7 harg7 z s
          (harg1.unread x) (harg2.unread g) (harg3.unread q)
          (arg7.view.writes (Elt F) arg7.view.junk [⟨whole, k0_pay2⟩]) k ++ [⟨whole, k0_pay2⟩]
        = ⟨whole, acc x g q s z k⟩ :: L
  | 0, _ => ⟨[], rfl⟩
  | k + 1, hk => by
    obtain ⟨L, hL⟩ := pieces_eq 𝒱 c bd i arg1 harg1 arg2 harg2 arg3 harg3 arg4 harg4 arg5 harg5 arg6 harg6 arg7 harg7 x g q s z k
      (Nat.le_of_succ_le hk)
    refine ⟨⟨whole, acc x g q s z k⟩ :: L, ?_⟩
    rw [pb_k0_t1_succ (k := ⟨k, hk⟩), trip_eq, ← View.writes_append, acc_succ (k := ⟨k, hk⟩)]
    dsimp only
    rw [List.append_assoc, hL, View.readAt_writes_full]
    rfl

variable (m : (ℓ : Loc nD τ sig) → Buf (Elt F) ℓ)

/-- THE OUTPUT BLOCK of grid point `t`: the accumulator after the last trip, rounded to bfloat16. -/
theorem outsAt_eq (c : Dev nD) (t : Fin cfg0.N) :
    outsAt0 m c t = k0_pay4 (acc (iblk m c 0 t) (iblk m c 1 t) (iblk m c 2 t) (iblk m c 3 t) (iblk m c 4 t) k0_t1_loop.trips) := by
  unfold outsAt0 out0_A_5
  rw [View.read_writes_eq_canon _ _ _ (cover0_A_5 c _ _ _ _ _ _ _ _ _ _ _ _ _ _ _ _ _ _ _ _)]
  unfold kernelRun0_A
  dsimp only
  sl_unfold_words
  simp only [View.readAt_eq_ld, (hs0_3 t).read_unread, (hs0_4 t).read_unread]
  rw [View.canon_cons_unit_lit (S := S16x1024) inb_S16x1024_S16x1024_0_0 _ _ (by decide), View.ld_unit_lit (S := S20x1024) inb_S20x1024_S20x1024_0_0 _ (by decide),
    View.ld_unit_lit (S := S40x1024) inb_S40x1024_S40x1024_0_0 _ (by decide)]
  obtain ⟨L, hL⟩ := pieces_eq Variants.none c none (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) (iblk m c 0 t) (iblk m c 1 t)
    (iblk m c 2 t) (iblk m c 3 t) (iblk m c 4 t) k0_t1_loop.trips le_rfl
  exact congrArg k0_pay4 ((congrArg (fun l => scM0_0.view.readCov l whole.toLoadRect) hL).trans
    (View.readCov_full _ _ _ _ _))

end Cert.Proof.Block
end
end
-- ==== Proof.Term.lean ====
/-
  THE QUANTIZED LINEAR LAYER, ONE ELEMENT OF THE RESULT, as plain mathematics over the extended reals. A result element is a sum over
  the 5120 input features of `x` times the dequantized weight; the dequantized weight is `(code - zero point) * scale`, where the zero
  point and the scale are those of the feature's group, picked from a table of 40 by a one-hot product. Codes and zero points are
  4-bit fields of bytes. Both programs are read down to `total`.
-/
module

public import Idealize.ShloMosaic.Lib.Pointwise

@[expose] public section

noncomputable section

namespace Cert.Proof.Term

open Idealize.ShloMosaic

/-- The low four bits of a byte, as a 32-bit word. -/
def lo (w : BitVec 8) : BitVec 32 := IntOp.andi (w.setWidth 32) 15#32

/-- The high four bits of a byte, as a 32-bit word. -/
def hi (w : BitVec 8) : BitVec 32 := IntOp.shrsi .vector (w.setWidth 32) 4#32

/-- A shift by four is the same operation on the host as in the kernel: four is below the width. -/
theorem shrsi_host (x : BitVec 32) : IntOp.shrsi .host x 4#32 = IntOp.shrsi .vector x 4#32 := rfl

/-- A word's signed value, as an extended real. -/
def num (w : BitVec 32) : EReal := ((w.toInt : ℝ) : EReal)

/-- 1 where the group number `v` is `g`, and 0 elsewhere. -/
def oneHot (v : BitVec 32) (g : ℕ) : EReal := if v = BitVec.ofNat 32 g then 1 else 0

/-- The zero point of group `g` in one column: the first twenty are low fields, the other twenty are high fields. -/
def zeroPt (z : Fin 20 → BitVec 8) (g : Fin 40) : EReal :=
  num (if h : g.val < 20 then lo (z ⟨g.val, h⟩) else hi (z ⟨g.val - 20, by omega⟩))

/-- The dequantized weight of code `w` in group `v`, by the column's zero points `z` and scales `s`. -/
def weight (w v : BitVec 32) (z : Fin 20 → BitVec 8) (s : Fin 40 → EReal) : EReal :=
  (num w - ∑ g : Fin 40, oneHot v g.val * zeroPt z g) * ∑ g : Fin 40, oneHot v g.val * s g

/-- The code of feature `K` in one column: byte `K / 2`'s low field for an even feature, its high field for an odd one. -/
def code (q : Fin 2560 → BitVec 8) (K : Fin 5120) : BitVec 32 :=
  if K.val % 2 < 1 then lo (q ⟨K.val / 2, by omega⟩) else hi (q ⟨K.val / 2, by omega⟩)

/-- Feature `K`'s contribution to one result element. -/
def term (x : Fin 5120 → EReal) (v : Fin 5120 → BitVec 32) (q : Fin 2560 → BitVec 8) (z : Fin 20 → BitVec 8) (s : Fin 40 → EReal)
    (K : Fin 5120) : EReal :=
  x K * weight (code q K) (v K) z s

/-- One element of the result: the sum over the features. -/
def total (x : Fin 5120 → EReal) (v : Fin 5120 → BitVec 32) (q : Fin 2560 → BitVec 8) (z : Fin 20 → BitVec 8) (s : Fin 40 → EReal) :
    EReal :=
  ∑ K : Fin 5120, term x v q z s K

/-- The kernel's one-hot entry: the bit of the comparison, widened to 32 bits and read signed. -/
theorem oneHot_kernel (v : BitVec 32) (g : ℕ) :
    ((((IntOp.cmpi .eq (BitVec.ofNat 32 g) v).setWidth 32).toInt : ℝ) : EReal) = oneHot v g := by
  unfold oneHot IntOp.cmpi
  by_cases h : v = BitVec.ofNat 32 g
  · subst h; simp
  · rw [if_neg h]
    have h' : (BitVec.ofNat 32 g == v) = false := beq_eq_false_iff_ne.mpr fun e => h e.symm
    simp [h']

/-- The reference's one-hot entry: the bit of the comparison, read unsigned. -/
theorem oneHot_reference (v : BitVec 32) (g : ℕ) :
    (((IntOp.cmpi .eq v (BitVec.ofNat 32 g)).toNat : ℝ) : EReal) = oneHot v g := by
  unfold oneHot IntOp.cmpi
  by_cases h : v = BitVec.ofNat 32 g
  · subst h; simp
  · simp [h]

/-- The features in the order "even ones first, then the odd ones": place `k` holds feature `2 k` below 2560, and feature
    `2 (k - 2560) + 1` from there on. -/
def evensFirst : Fin 5120 ≃ Fin 5120 where
  toFun k := if h : k.val < 2560 then ⟨2 * k.val, by omega⟩ else ⟨2 * (k.val - 2560) + 1, by omega⟩
  invFun K := ⟨K.val / 2 + 2560 * (K.val % 2), by omega⟩
  left_inv k := by
    apply Fin.ext
    by_cases h : k.val < 2560
    · simp only [dif_pos h]; omega
    · simp only [dif_neg h]; omega
  right_inv K := by
    apply Fin.ext
    by_cases h : K.val / 2 + 2560 * (K.val % 2) < 2560
    · simp only [dif_pos h]; omega
    · simp only [dif_neg h]; omega

/-- The sum may be taken in that order. -/
theorem total_evensFirst (x : Fin 5120 → EReal) (v : Fin 5120 → BitVec 32) (q : Fin 2560 → BitVec 8) (z : Fin 20 → BitVec 8)
    (s : Fin 40 → EReal) : ∑ k : Fin 5120, term x v q z s (evensFirst k) = total x v q z s :=
  Equiv.sum_comp evensFirst (term x v q z s)

end Cert.Proof.Term
end
end
-- ==== Proof.Chunk.lean ====
/-
  ONE TRIP AND THE WHOLE LOOP, AT THE IDEAL INSTANCE. A trip adds to element (b, n) of the accumulator the contributions of its 512
  features; so after `k` trips the accumulator holds the sum over the first `512 k` features (`acc_apply`), and after the ten trips
  the sum over all 5120 (`acc_total`).
-/
module

public import proofs.«01_k».proof.Proof.Block
public import proofs.«01_k».proof.Proof.Term

@[expose] public section

set_option maxRecDepth 16384

noncomputable section

namespace Cert.Proof.Chunk

open Cert.KernelIdeal Cert.KernelIdeal.Gen Idealize.ShloMosaic Idealize.ShloMosaic.TcCoe Idealize.SL.Sem
open Cert.Proof.Term Cert.Proof.Block

/-- The table of zero points, at group `j` and column `n`. -/
theorem zeros_apply (z : Vec Ideal S20x1024 .i8) (j : Fin 40) (n : Fin 1024) :
    k0_pay1 (F := Ideal) z (ix2 j n) = zeroPt (fun g => z (ix2 g n)) j := by
  pointwise [k0_pay1]
  rfl

/-- A one-hot product picks, for row `r`, the table's entry of the row's group. -/
theorem pick_apply (T : FVec Ideal S40x1024 .bf16) (g : Vec Ideal S1x512 .i32) (r : Fin 512) (n : Fin 1024) :
    k0_pay7 (F := Ideal) T g (ix2 r n) = ∑ j : Fin 40, oneHot (g (ix2 0 r)) j.val * T (ix2 j n) := by
  pointwise [k0_pay7, k0_pay5]
  exact Finset.sum_congr rfl fun j _ => congrArg (· * T (ix2 j n)) (oneHot_kernel _ _)

/-- The same for the product that picks zero points. -/
theorem pickZero_apply (T : FVec Ideal S40x1024 .bf16) (g : Vec Ideal S1x512 .i32) (r : Fin 512) (n : Fin 1024) :
    k0_pay6 (F := Ideal) T g (ix2 r n) = ∑ j : Fin 40, oneHot (g (ix2 0 r)) j.val * T (ix2 j n) :=
  pick_apply T g r n

/-- The high fields of the trip's bytes. -/
theorem high_apply (q : Vec Ideal S256x1024 .i8) (r : Fin 256) (n : Fin 1024) :
    k0_pay9 (F := Ideal) q (ix2 r n) = hi (q (ix2 r n)) := by
  pointwise [k0_pay9, k0_pay8]
  rfl

/-- The low fields of the trip's bytes. -/
theorem low_apply (q : Vec Ideal S256x1024 .i8) (r : Fin 256) (u : Fin 1) (n : Fin 1024) :
    k0_pay10 (F := Ideal) q (ix3 r u n) = lo (q (ix2 r n)) := by
  pointwise [k0_pay10, k0_pay8]
  rfl

/-- ONE TRIP AT AN ELEMENT: the accumulator's element plus the sum over the trip's 512 features. -/
theorem step_apply (z : Vec Ideal S20x1024 .i8) (s : Vec Ideal S40x1024 .bf16) (g : Vec Ideal S1x512 .i32) (q : Vec Ideal S256x1024 .i8)
    (x : Vec Ideal S16x512 .bf16) (a : Vec Ideal S16x1024 .f32) (b : Fin 16) (n : Fin 1024) :
    step z s g q x a (ix2 b n) = a (ix2 b n) + ∑ r : Fin 512, x (ix2 b r)
      * weight (if r.val % 2 < 1 then lo (q (ix2 ⟨r.val / 2, by omega⟩ n)) else hi (q (ix2 ⟨r.val / 2, by omega⟩ n)))
          (g (ix2 0 r)) (fun j => z (ix2 j n)) (fun j => s (ix2 j n)) := by
  unfold step
  pointwise [k0_pay3]
  simp only [pickZero_apply, pick_apply, zeros_apply, high_apply, low_apply]
  rfl

/-- The loop runs ten trips. -/
theorem trips_eq : k0_t1_loop.trips = 10 := by decide +kernel

/-- Trip `k`'s columns of `x`. -/
theorem ld_x (x : Vec Ideal S16x5120 .bf16) (k : Fin k0_t1_loop.trips) (b : Fin 16) (r : Fin 512) (hK : 512 * k.val + r.val < 5120) :
    View.ld x (Rect.unit (k0_off3 k) S16x512.size (k0_off3_inb k)) (ix2 b r) = x (ix2 b ⟨512 * k.val + r.val, hK⟩) :=
  View.ld_unit_apply_of x _ _ _ _ _ fun a => by
    have e := congrFun (k0_off3_eq k) a
    refine Eq.trans ?_ (congrArg (· + _) e.symm)
    match a with
    | ⟨0, _⟩ => exact (Nat.zero_add _).symm
    | ⟨1, _⟩ => rfl

/-- Trip `k`'s group numbers. -/
theorem ld_g (g : Vec Ideal S1x5120 .i32) (k : Fin k0_t1_loop.trips) (r : Fin 512) (hK : 512 * k.val + r.val < 5120) :
    View.ld g (Rect.unit (k0_off1 k) S1x512.size (k0_off1_inb k)) (ix2 0 r) = g (ix2 0 ⟨512 * k.val + r.val, hK⟩) :=
  View.ld_unit_apply_of g _ _ _ _ _ fun a => by
    have e := congrFun (k0_off1_eq k) a
    refine Eq.trans ?_ (congrArg (· + _) e.symm)
    match a with
    | ⟨0, _⟩ => rfl
    | ⟨1, _⟩ => rfl

/-- Trip `k`'s packed rows. -/
theorem ld_q (q : Vec Ideal S2560x1024 .i8) (k : Fin k0_t1_loop.trips) (p : Fin 256) (n : Fin 1024) (hp : 256 * k.val + p.val < 2560) :
    View.ld q (Rect.unit (k0_off2 k) S256x1024.size (k0_off2_inb k)) (ix2 p n) = q (ix2 ⟨256 * k.val + p.val, hp⟩ n) :=
  View.ld_unit_apply_of q _ _ _ _ _ fun a => by
    have e := congrFun (k0_off2_eq k) a
    refine Eq.trans ?_ (congrArg (· + _) e.symm)
    match a with
    | ⟨0, _⟩ => rfl
    | ⟨1, _⟩ => exact (Nat.zero_add _).symm

/-- The contribution of the `i`-th feature to element (b, n) of a block, as a function of a natural number: zero past the last one. -/
def contrib (x : Vec Ideal S16x5120 .bf16) (g : Vec Ideal S1x5120 .i32) (q : Vec Ideal S2560x1024 .i8) (s : Vec Ideal S40x1024 .bf16)
    (z : Vec Ideal S20x1024 .i8) (b : Fin 16) (n : Fin 1024) (i : ℕ) : EReal :=
  if h : i < 5120 then term (fun K => x (ix2 b K)) (fun K => g (ix2 0 K)) (fun p => q (ix2 p n)) (fun j => z (ix2 j n))
    (fun j => s (ix2 j n)) ⟨i, h⟩ else 0

/-- THE ACCUMULATOR AFTER `k` TRIPS, at an element: the sum over the first `512 k` features. -/
theorem acc_apply (x : Vec Ideal S16x5120 .bf16) (g : Vec Ideal S1x5120 .i32) (q : Vec Ideal S2560x1024 .i8) (s : Vec Ideal S40x1024 .bf16)
    (z : Vec Ideal S20x1024 .i8) (b : Fin 16) (n : Fin 1024) : ∀ k : ℕ, k ≤ k0_t1_loop.trips →
      acc x g q s z k (ix2 b n) = ∑ i ∈ Finset.range (512 * k), contrib x g q s z b n i
  | 0, _ => by
    unfold acc
    pointwise [k0_pay2]
    rfl
  | k + 1, hk => by
    have hk10 : k < 10 := trips_eq ▸ hk
    rw [acc_succ (k := ⟨k, hk⟩), step_apply, acc_apply x g q s z b n k (Nat.le_of_succ_le hk), Nat.mul_succ, Finset.sum_range_add]
    refine congrArg (_ + ·) ?_
    rw [Finset.sum_range]
    refine Finset.sum_congr rfl fun r _ => ?_
    have hr := r.isLt
    have hK : 512 * k + r.val < 5120 := by omega
    have hp : 256 * k + r.val / 2 < 2560 := by omega
    rw [ld_x x ⟨k, hk⟩ b r hK, ld_g g ⟨k, hk⟩ r hK, ld_q q ⟨k, hk⟩ ⟨r.val / 2, by omega⟩ n hp]
    unfold contrib
    rw [dif_pos hK]
    unfold term code
    have e1 : (512 * k + r.val) % 2 = r.val % 2 := by omega
    have e2 : (512 * k + r.val) / 2 = 256 * k + r.val / 2 := by omega
    simp only [e1, e2]

/-- THE ACCUMULATOR AFTER THE LOOP, at an element: the sum over all features. -/
theorem acc_total (x : Vec Ideal S16x5120 .bf16) (g : Vec Ideal S1x5120 .i32) (q : Vec Ideal S2560x1024 .i8) (s : Vec Ideal S40x1024 .bf16)
    (z : Vec Ideal S20x1024 .i8) (b : Fin 16) (n : Fin 1024) :
    k0_pay4 (F := Ideal) (acc x g q s z k0_t1_loop.trips) (ix2 b n)
      = total (fun K => x (ix2 b K)) (fun K => g (ix2 0 K)) (fun p => q (ix2 p n)) (fun j => z (ix2 j n)) (fun j => s (ix2 j n)) := by
  pointwise [k0_pay4]
  rw [acc_apply x g q s z b n _ le_rfl, trips_eq, show 512 * 10 = 5120 from rfl, Finset.sum_range]
  unfold total
  exact Finset.sum_congr rfl fun K _ => dif_pos K.isLt

end Cert.Proof.Chunk
end
end
-- ==== Proof.Array.lean ====
/-
  WHAT THE RESULT ARRAY HOLDS AFTER THE RUN. Grid point `t` works on columns `1024 t … 1024 t + 1023`: its blocks of the packed weights,
  of the scales and of the packed zero points are those columns of the arrays, its blocks of `x` and of the group numbers are the whole
  arrays, and what it writes back is `total` at each of its places. The 27 blocks cover the array.
-/
module

public import proofs.«01_k».proof.Proof.Chunk
public import Idealize.ShloMosaic.Lib.Pipeline.Value

@[expose] public section

set_option maxRecDepth 16384

noncomputable section

namespace Cert.Proof.Array

open Cert.KernelIdeal Cert.KernelIdeal.Gen Idealize.ShloMosaic Idealize.ShloMosaic.TcCoe Idealize.SL.Sem
open Idealize.ShloMosaic.Pipeline (Dat)
open Cert.Proof.Term Cert.Proof.Block Cert.Proof.Chunk

variable (m : (ℓ : Loc nD τ sig) → Buf (Elt Ideal) ℓ) (c : Dev nD)

/-- The result array, as a function of the five arrays the kernel reads. -/
def result (x : Vec Ideal S16x5120 .bf16) (g : Vec Ideal S1x5120 .i32) (q : Vec Ideal S2560x27648 .i8) (s : Vec Ideal S40x27648 .bf16)
    (z : Vec Ideal S20x27648 .i8) : Vec Ideal S16x27648 .bf16 := fun i =>
  total (fun K => x (ix2 (i 0) K)) (fun K => g (ix2 0 K)) (fun p => q (ix2 p (i 1))) (fun j => z (ix2 j (i 1))) (fun j => s (ix2 j (i 1)))

/-- The block indices of every window at every grid point (27 points). -/
theorem idx_eq : ∀ t : Fin cfg0.N,
    (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = t.val) ∧ (win0_3.index t (0 : Fin 2) = 0 ∧ win0_3.index t (1 : Fin 2) = t.val)
    ∧ (win0_4.index t (0 : Fin 2) = 0 ∧ win0_4.index t (1 : Fin 2) = t.val) ∧ (win0_5.index t (0 : Fin 2) = 0 ∧ win0_5.index t (1 : Fin 2) = t.val) :=
  (by decide +kernel : ∀ t : Fin grid0.N,
    (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = t.val) ∧ (win0_3.index t (0 : Fin 2) = 0 ∧ win0_3.index t (1 : Fin 2) = t.val)
    ∧ (win0_4.index t (0 : Fin 2) = 0 ∧ win0_4.index t (1 : Fin 2) = t.val) ∧ (win0_5.index t (0 : Fin 2) = 0 ∧ win0_5.index t (1 : Fin 2) = t.val))

/-- There are 27 grid points. -/
theorem point_lt (t : Fin cfg0.N) : t.val < 27 := t.isLt

/-- Column `n` of block `t` is this column of the array. -/
def col (t : Fin cfg0.N) (n : Fin 1024) : Fin 27648 := ⟨1024 * t.val + n.val, by have := point_lt t; have := n.isLt; omega⟩

/-- The block of `x` is the array. -/
theorem iblk_x (t : Fin cfg0.N) (b : Fin 16) (K : Fin 5120) :
    (iblk m c 0 t : Vec Ideal S16x5120 .bf16) (ix2 b K) = (V m c main_v0 : Vec Ideal S16x5120 .bf16) (ix2 b K) := by
  refine congrArg (V m c main_v0 : Vec Ideal S16x5120 .bf16) ?_
  have e := (idx_eq t).1
  funext a; apply Fin.ext
  match a with
  | ⟨0, _⟩ => show win0_0.index t (0 : Fin 2) * 16 + 1 * b.val = b.val; omega
  | ⟨1, _⟩ => show win0_0.index t (1 : Fin 2) * 5120 + 1 * K.val = K.val; omega

/-- The block of the group numbers is the array. -/
theorem iblk_g (t : Fin cfg0.N) (K : Fin 5120) :
    (iblk m c 1 t : Vec Ideal S1x5120 .i32) (ix2 0 K) = (V m c main_v1 : Vec Ideal S1x5120 .i32) (ix2 0 K) := by
  refine congrArg (V m c main_v1 : Vec Ideal S1x5120 .i32) ?_
  have e := (idx_eq t).2.1
  funext a; apply Fin.ext
  match a with
  | ⟨0, _⟩ => show win0_1.index t (0 : Fin 2) * 1 + 1 * 0 = 0; omega
  | ⟨1, _⟩ => show win0_1.index t (1 : Fin 2) * 5120 + 1 * K.val = K.val; omega

/-- The block of the packed weights is its columns of the array. -/
theorem iblk_q (t : Fin cfg0.N) (p : Fin 2560) (n : Fin 1024) :
    (iblk m c 2 t : Vec Ideal S2560x1024 .i8) (ix2 p n) = (V m c main_arg1 : Vec Ideal S2560x27648 .i8) (ix2 p (col t n)) := by
  refine congrArg (V m c main_arg1 : Vec Ideal S2560x27648 .i8) ?_
  have e := (idx_eq t).2.2.1
  funext a; apply Fin.ext
  match a with
  | ⟨0, _⟩ => show win0_2.index t (0 : Fin 2) * 2560 + 1 * p.val = p.val; omega
  | ⟨1, _⟩ => show win0_2.index t (1 : Fin 2) * 1024 + 1 * n.val = 1024 * t.val + n.val; omega

/-- The block of the scales is its columns of the array. -/
theorem iblk_s (t : Fin cfg0.N) (j : Fin 40) (n : Fin 1024) :
    (iblk m c 3 t : Vec Ideal S40x1024 .bf16) (ix2 j n) = (V m c main_arg2 : Vec Ideal S40x27648 .bf16) (ix2 j (col t n)) := by
  refine congrArg (V m c main_arg2 : Vec Ideal S40x27648 .bf16) ?_
  have e := (idx_eq t).2.2.2.1
  funext a; apply Fin.ext
  match a with
  | ⟨0, _⟩ => show win0_3.index t (0 : Fin 2) * 40 + 1 * j.val = j.val; omega
  | ⟨1, _⟩ => show win0_3.index t (1 : Fin 2) * 1024 + 1 * n.val = 1024 * t.val + n.val; omega

/-- The block of the packed zero points is its columns of the array. -/
theorem iblk_z (t : Fin cfg0.N) (j : Fin 20) (n : Fin 1024) :
    (iblk m c 4 t : Vec Ideal S20x1024 .i8) (ix2 j n) = (V m c main_arg3 : Vec Ideal S20x27648 .i8) (ix2 j (col t n)) := by
  refine congrArg (V m c main_arg3 : Vec Ideal S20x27648 .i8) ?_
  have e := (idx_eq t).2.2.2.2.1
  funext a; apply Fin.ext
  match a with
  | ⟨0, _⟩ => show win0_4.index t (0 : Fin 2) * 20 + 1 * j.val = j.val; omega
  | ⟨1, _⟩ => show win0_4.index t (1 : Fin 2) * 1024 + 1 * n.val = 1024 * t.val + n.val; omega

/-- The place of element (b, n) of output block `t` in the array. -/
theorem emb_out (t : Fin cfg0.N) (b : Fin 16) (n : Fin 1024) :
    (((cfg0.win 5).blk t).view.emb (ix2 b n : S16x1024.Idx) : S16x27648.Idx) = ix2 b (col t n) := by
  have e := (idx_eq t).2.2.2.2.2
  funext a; apply Fin.ext
  match a with
  | ⟨0, _⟩ => show win0_5.index t (0 : Fin 2) * 16 + 1 * b.val = b.val; omega
  | ⟨1, _⟩ => show win0_5.index t (1 : Fin 2) * 1024 + 1 * n.val = 1024 * t.val + n.val; omega

/-- The result array named over the region's entry contents. -/
abbrev entryResult : Vec Ideal S16x27648 .bf16 := result (V m c main_v0) (V m c main_v1) (V m c main_arg1) (V m c main_arg2) (V m c main_arg3)

/-- WHAT POINT `t` WRITES BACK is its block of the result. -/
theorem flushed_eq (t : Fin cfg0.N) :
    (dats m 0 c).flushed 5 t = ((cfg0.win 5).blk t).view.read (Elt Ideal) (entryResult m c) := by
  show (cfg0.win 5).cut (grid0.coords t) ((dats m 0 c).after 5 t) = _
  rw [after0_5, outsAt_eq]
  funext j
  obtain ⟨b, n, rfl⟩ : ∃ (b : Fin 16) (n : Fin 1024), j = (ix2 b n : S16x1024.Idx) :=
    ⟨j 0, j 1, funext fun a => match a with | ⟨0, _⟩ => rfl | ⟨1, _⟩ => rfl⟩
  show k0_pay4 (F := Ideal) (acc _ _ _ _ _ k0_t1_loop.trips) (ix2 b n) = entryResult m c (((cfg0.win 5).blk t).view.emb (ix2 b n : S16x1024.Idx))
  rw [emb_out, acc_total]
  simp only [iblk_x, iblk_g, iblk_q, iblk_s, iblk_z]
  rfl

/-- EVERY PLACE OF THE RESULT ARRAY is in the block of the point `column / 1024`, which writes it back. -/
theorem covered (i : S16x27648.Idx) : ∃ t : Fin cfg0.N, (cfg0.win 5).flush t = true ∧ i ∈ ((cfg0.win 5).blk t).view.set := by
  have h1 : (i 1).val < 27648 := (i 1).isLt
  have key : ∀ (t : Fin cfg0.N) (n : Fin 1024), i = ix2 (i 0) (col t n) → i ∈ ((cfg0.win 5).blk t).view.set := fun t n e => by
    have h := ((cfg0.win 5).blk t).view.emb_mem_set (ix2 (i 0) n : S16x1024.Idx)
    exact (e.trans (emb_out t (i 0) n).symm) ▸ h
  refine ⟨⟨(i 1).val / 1024, show _ < 27 by omega⟩, flush0_5 _, key _ ⟨(i 1).val % 1024, by omega⟩ ?_⟩
  funext a; apply Fin.ext
  match a with
  | ⟨0, _⟩ => rfl
  | ⟨1, _⟩ => show (i 1).val = 1024 * ((i 1).val / 1024) + (i 1).val % 1024; omega

/-- THE RESULT ARRAY AFTER THE RUN. -/
theorem final : (dats m 0 c).arrAt 5 cfg0.N = entryResult m c :=
  (dats m 0 c).arrAt_eq_of_cover 5 (entryResult m c) (fun t _ => flushed_eq m c t) covered

end Cert.Proof.Array
end
end
-- ==== Proof.KernelRun.lean ====
/-
  THE KERNEL PROGRAM'S RUN WITH ITS RESULT NAMED. The program reshapes `x` (16×1×5120 to 16×5120) and the group numbers (5120 to
  1×5120), runs the kernel, and reshapes its array (16×27648 to 16×1×27648).
-/
module

public import proofs.«01_k».proof.Proof.Array
public import Idealize.ShloMosaic.Lib.StableHlo.ReadAt

@[expose] public section

set_option maxRecDepth 16384

noncomputable section

namespace Cert.Proof.KernelRun

open Cert.KernelIdeal Cert.KernelIdeal.Gen Idealize.ShloMosaic Idealize.ShloMosaic.TcCoe Idealize.SL.Sem
open Idealize.ShloMosaic.Pipeline (Dat)
open Cert.Proof.Term Cert.Proof.Array

variable (m : (ℓ : Loc nD τ sig) → Buf (Elt Ideal) ℓ) (ρ : Dev nD → PrngReg) (c : Dev nD)

/-- The region finds `x` with its axis of extent one dropped. -/
theorem entry_x (b : Fin 16) (K : Fin 5120) :
    (V m c main_v0 : Vec Ideal S16x5120 .bf16) (ix2 b K) = (m ((c : Thread nD τ).loc main_arg0) : Vec Ideal S16x1x5120 .bf16) (ix3 b 0 K) := by
  unfold V V0
  simp only [List.flatten_cons, List.flatten_nil, List.append_nil]
  after_reads_at

/-- The region finds the group numbers as one row. -/
theorem entry_g (K : Fin 5120) :
    (V m c main_v1 : Vec Ideal S1x5120 .i32) (ix2 0 K) = (m ((c : Thread nD τ).loc main_arg4) : Vec Ideal S5120 .i32) (ix1 K) := by
  unfold V V0
  simp only [List.flatten_cons, List.flatten_nil, List.append_nil]
  after_reads_at

/-- The program's result, as a function of its arguments. -/
def output (x : Vec Ideal S16x1x5120 .bf16) (q : Vec Ideal S2560x27648 .i8) (s : Vec Ideal S40x27648 .bf16)
    (z : Vec Ideal S20x27648 .i8) (g : Vec Ideal S5120 .i32) : Vec Ideal S16x1x27648 .bf16 := fun i =>
  total (fun K => x (ix3 (i 0) 0 K)) (fun K => g (ix1 K)) (fun p => q (ix2 p (i 2))) (fun j => z (ix2 j (i 2))) (fun j => s (ix2 j (i 2)))

/-- The program's result after the run: the kernel's array with an axis of extent one inserted. -/
theorem tail_apply (b : Fin 16) (n : Fin 27648) :
    (Pipeline.afterTail₀ cfgs (dats m) 0 (V0 m) [hostOps1] c main_v3 : Vec Ideal S16x1x27648 .bf16) (ix3 b 0 n)
      = ((dats m 0 c).arrAt 5 cfg0.N : Vec Ideal S16x27648 .bf16) (ix2 b n) := by
  have h := Pipeline.withArrays_arr (cfgs 0).spec launch0.win.arr_inj c (V0 m c) (fun w => (dats m 0 c).arrAt w (cfgs 0).N) 5
  unfold Pipeline.afterTail₀
  generalize Pipeline.withArrays (cfgs 0).spec c (V0 m c) (fun w => (dats m 0 c).arrAt w (cfgs 0).N) = W at h ⊢
  rw [show ((dats m 0 c).arrAt 5 cfg0.N : Vec Ideal S16x27648 .bf16) = W (Proc.devRef .tc main_v2) from h.symm]
  simp only [List.flatten_cons, List.flatten_nil, List.append_nil]
  after_reads_at

/-- … which is `output` of the arguments as launched. -/
theorem tail_eq : (Pipeline.afterTail₀ cfgs (dats m) 0 (V0 m) [hostOps1] c main_v3 : Vec Ideal S16x1x27648 .bf16)
    = output (m ((c : Thread nD τ).loc main_arg0)) (m ((c : Thread nD τ).loc main_arg1)) (m ((c : Thread nD τ).loc main_arg2))
        (m ((c : Thread nD τ).loc main_arg3)) (m ((c : Thread nD τ).loc main_arg4)) := by
  funext i
  obtain ⟨b, n, rfl⟩ : ∃ (b : Fin 16) (n : Fin 27648), i = (ix3 b 0 n : S16x1x27648.Idx) :=
    ⟨i 0, i 2, funext fun a => match a with
      | ⟨0, _⟩ => rfl
      | ⟨1, _⟩ => Subsingleton.elim (α := Fin 1) _ _
      | ⟨2, _⟩ => rfl⟩
  rw [tail_apply, final]
  unfold entryResult
  rw [V_main_arg1, V_main_arg2, V_main_arg3]
  show total (fun K => (V m c main_v0 : Vec Ideal S16x5120 .bf16) (ix2 b K)) (fun K => (V m c main_v1 : Vec Ideal S1x5120 .i32) (ix2 0 K))
    _ _ _ = total _ _ _ _ _
  rw [funext (entry_x m c b), funext (entry_g m c)]
  rfl

/-- THE RUN: every execution ends with the result at `output` of the arguments, and the arguments unchanged. -/
theorem run : θ_run defs (onTc (τ := τ) (main (F := Ideal))) ⟨m, fun _ => 0, ρ⟩ fun r => ∀ c : Dev nD,
      r.2.mem ((c.tc : Thread nD τ).loc main_v3)
        = output (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).trans (tail_eq m c), h.2 c⟩)
    (θ_run_and ((θ_run defs _ _).mono
      (fun _ h c => (h c).2 main_v3 (Pipeline.mem_restRefs_of main_v3 (by decide) (by decide))) (run_main m ρ)) (unchanged m ρ))

end Cert.Proof.KernelRun
end
end
-- ==== Proof.RefValue.lean ====
/-
  WHAT THE REFERENCE COMPUTES, AT AN ELEMENT, AT THE IDEAL INSTANCE. The reference lists the even features first and the odd ones
  after them (in `x`, in the group numbers and in the unpacked codes alike); each of its arrays at place `k` is the array in plain
  feature order at `evensFirst k`, and its result at (b, n) is `total`.
-/
module

public import proofs.«01_k».proof.Proof.Gen.ReferenceIdeal.Read
public import proofs.«01_k».proof.Proof.Term

@[expose] public section

set_option maxRecDepth 16384

noncomputable section

namespace Cert.Proof.RefValue

open Cert.ReferenceIdeal Cert.ReferenceIdeal.Gen Cert.ReferenceIdeal.Read Idealize.ShloMosaic Idealize.ShloMosaic.TcCoe Idealize.SL.Sem
open Cert.Proof.Term

/-- A list of the even places followed by the odd ones, at place `k`. -/
theorem evensFirst_dite {α : Type} (f : Fin 5120 → α) (k : Fin 5120) :
    (if h : k.val < 2560 then f ⟨2 * k.val, by omega⟩ else f ⟨1 + 2 * (k.val - 2560), by omega⟩) = f (evensFirst k) := by
  unfold evensFirst
  by_cases h : k.val < 2560
  · simp only [Equiv.coe_fn_mk, dif_pos h]
  · simp only [Equiv.coe_fn_mk, dif_neg h, Nat.add_comm 1]

/-- `x` in the reference's order of features. -/
theorem x_apply (x0 : Vec Ideal S16x1x5120 .bf16) (b : Fin 16) (k : Fin 5120) :
    val_main_v32 (F := Ideal) x0 (ix3 b 0 k) = x0 (ix3 b 0 (evensFirst k)) := by
  pointwise [val_main_v32, val_main_v30, val_main_v31]
  exact evensFirst_dite (fun K => x0 (ix3 b 0 K)) k

/-- The group numbers in the reference's order of features. -/
theorem g_apply (x4 : Vec Ideal S5120 .i32) (k : Fin 5120) :
    val_main_v10 (F := Ideal) x4 (ix1 k) = x4 (ix1 (evensFirst k)) := by
  pointwise [val_main_v10, val_main_v8, val_main_v9]
  exact evensFirst_dite (fun K => x4 (ix1 K)) k

/-- The codes in the reference's order of features. -/
theorem code_apply (x1 : Vec Ideal S2560x27648 .i8) (k : Fin 5120) (n : Fin 27648) :
    val_main_v26 (F := Ideal) x1 (ix2 k n) = code (fun p => x1 (ix2 p n)) (evensFirst k) := by
  pointwise [val_main_v26, val_main_v23, val_main_v25, val_main_v0, val_main_v22, val_main_c_1, val_main_v24, val_main_c_2]
  unfold code evensFirst
  by_cases h : k.val < 2560
  · have e1 : 2 * k.val % 2 < 1 := by omega
    have e2 : 2 * k.val / 2 = k.val := by omega
    simp only [Equiv.coe_fn_mk, dif_pos h, if_pos e1, e2]
    rfl
  · have e1 : ¬ (2 * (k.val - 2560) + 1) % 2 < 1 := by omega
    have e2 : (2 * (k.val - 2560) + 1) / 2 = k.val - 2560 := by omega
    simp only [Equiv.coe_fn_mk, dif_neg h, if_neg e1, e2]
    rfl

/-- The table of zero points. -/
theorem zeros_apply (x3 : Vec Ideal S20x27648 .i8) (j : Fin 40) (n : Fin 27648) :
    val_main_v7 (F := Ideal) x3 (ix2 j n) = zeroPt (fun g => x3 (ix2 g n)) j := by
  pointwise [val_main_v7, val_main_v6, val_main_v3, val_main_v5, val_main_v1, val_main_v2, val_main_c, val_main_v4, val_main_c_0]
  rfl

/-- The one-hot table. -/
theorem oneHot_apply (x4 : Vec Ideal S5120 .i32) (k : Fin 5120) (j : Fin 40) :
    val_main_v17 (F := Ideal) x4 (ix2 k j) = oneHot (x4 (ix1 (evensFirst k))) j.val := by
  rw [← g_apply x4 k]
  pointwise [val_main_v17, val_main_v16, val_main_v14, val_main_v15, val_main_v11, val_main_v13, val_main_v12]
  exact oneHot_reference _ _

/-- THE REFERENCE'S RESULT at an element. -/
theorem result_apply (x0 : Vec Ideal S16x1x5120 .bf16) (x1 : Vec Ideal S2560x27648 .i8) (x2 : Vec Ideal S40x27648 .bf16)
    (x3 : Vec Ideal S20x27648 .i8) (x4 : Vec Ideal S5120 .i32) (b : Fin 16) (n : Fin 27648) :
    val_main_v34 (F := Ideal) x0 x1 x2 x3 x4 (ix3 b 0 n)
      = total (fun K => x0 (ix3 b 0 K)) (fun K => x4 (ix1 K)) (fun p => x1 (ix2 p n)) (fun j => x3 (ix2 j n)) (fun j => x2 (ix2 j n)) := by
  pointwise [val_main_v34, val_main_v33, val_main_v29, val_main_v28, val_main_v27, val_main_v19, val_main_v18, val_main_v21, val_main_v20]
  rw [← total_evensFirst]
  refine Finset.sum_congr rfl fun k _ => ?_
  rw [x_apply, code_apply]
  simp only [oneHot_apply, zeros_apply]
  rfl

end Cert.Proof.RefValue
end
end
-- ==== Proof.RefRun.lean ====
/-
  THE REFERENCE'S RUN WITH ITS RESULT NAMED: the composed term of its operations is the same function of the arguments as the kernel
  program's result.
-/
module

public import proofs.«01_k».proof.Proof.RefValue
public import proofs.«01_k».proof.Proof.KernelRun
public import proofs.«01_k».proof.Proof.Gen.ReferenceIdeal.Run

@[expose] public section

set_option maxRecDepth 16384

noncomputable section

namespace Cert.Proof.RefRun

open Cert.ReferenceIdeal Cert.ReferenceIdeal.Gen Cert.ReferenceIdeal.Read Idealize.ShloMosaic Idealize.ShloMosaic.TcCoe Idealize.SL.Sem
open Cert.Proof.KernelRun (output)

/-- THE EQUATION: the reference's result is the kernel program's, at every element. -/
theorem result_eq (x0 : Vec Ideal S16x1x5120 .bf16) (x1 : Vec Ideal S2560x27648 .i8) (x2 : Vec Ideal S40x27648 .bf16)
    (x3 : Vec Ideal S20x27648 .i8) (x4 : Vec Ideal S5120 .i32) :
    val_main_v34 (F := Ideal) x0 x1 x2 x3 x4 = output x0 x1 x2 x3 x4 := by
  funext i
  obtain ⟨b, n, rfl⟩ : ∃ (b : Fin 16) (n : Fin 27648), i = (ix3 b 0 n : S16x1x27648.Idx) :=
    ⟨i 0, i 2, funext fun a => match a with
      | ⟨0, _⟩ => rfl
      | ⟨1, _⟩ => Subsingleton.elim (α := Fin 1) _ _
      | ⟨2, _⟩ => rfl⟩
  exact RefValue.result_apply x0 x1 x2 x3 x4 b n

variable (m : (ℓ : Loc nD τ sig) → Buf (Elt Ideal) ℓ) (ρ : Dev nD → PrngReg)

/-- THE RUN: every execution ends with the result at `output` of the arguments, and the arguments unchanged. -/
theorem run : θ_run defs (onTc (τ := τ) (main (F := Ideal))) ⟨m, fun _ => 0, ρ⟩ fun r => ∀ c : Dev nD,
      r.2.mem ((c.tc : Thread nD τ).loc main_v34)
        = output (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v34_eq _ _ _ _ _).trans (result_eq _ _ _ _ _)), (h c).2⟩)
    (Value.run (F := Ideal) m ρ)

/-- THE FRAME: the arguments end unchanged, and every semaphore counter reads zero because the reference declares no semaphore. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2, sem_eq_zero_of_no_sems (by decide) r.2⟩) (run m ρ)

end Cert.Proof.RefRun
end
end
-- ==== Proof.lean ====
/-
  THE PROOF OF THE CLAIM. The three frames: the kernel programs' are the generated ones, the reference's is in Proof/RefRun.lean. The
  idealization rewrote no operation, so that it preserves the kernel is trivial. The algebraic claim: both programs end with the same
  function of their arguments (`KernelRun.output`), the kernel's by Proof/KernelRun.lean and the reference's by Proof/RefRun.lean.

  The steps, in order: Proof/Term.lean defines one element of the result as a sum over the features; Proof/Block.lean reads the generated
  run of one grid point as ten trips of one step; Proof/Chunk.lean reads a step and the ten trips at an element; Proof/Array.lean says
  what the array holds after all points; Proof/KernelRun.lean adds the reshapes around the kernel; Proof/RefValue.lean and
  Proof/RefRun.lean do the same for the reference.
-/
module

public import proofs.«01_k».proof.Defs
public import proofs.«01_k».proof.Proof.Gen.Kernel
public import proofs.«01_k».proof.Proof.Gen.Kernel.Frame
public import proofs.«01_k».proof.Proof.KernelRun
public import proofs.«01_k».proof.Proof.RefRun

@[expose] public section

noncomputable section

namespace Cert.Proof

open Idealize.ShloMosaic Idealize.SL.Sem

/-- From equal arguments both programs run and end with equal results: each ends with `KernelRun.output` of its arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, KernelRun.run m g, ?_⟩
  refine (θ_run (Cert.ReferenceIdeal.defs (F := Ideal)) _ _).mono (fun r h c => ⟨(h c).1.trans ?_, (h c).2⟩) (RefRun.run m' g')
  obtain ⟨h0, h1, h2, h3, h4⟩ := hargs c
  rw [h0, h1, h2, h3, h4]

/-- The claim: the three frames, the preservation, and the algebraic equation. -/
theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, fun m g _ => RefRun.frame m g, trivial, algebraic⟩

end Cert.Proof

end
